-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x64 : Shape := ⟨2, ![32768, 64]⟩
abbrev S1 : Shape := ⟨1, ![1]⟩
abbrev S_ : Shape := ⟨0, ![]⟩

abbrev nBuf : Table → Nat
  | .hbm => 3
  | .local .scScalar .smem => 1
  | _ => 0

abbrev bufTy : (tb : Table) → Fin (nBuf tb) → BufTy
  | .hbm, ⟨0, _⟩ => ⟨S32768x64, .f32⟩
  | .hbm, ⟨1, _⟩ => ⟨S1, .i32⟩
  | .hbm, ⟨2, _⟩ => ⟨S1, .i32⟩
  | .local .scScalar .smem, ⟨0, _⟩ => ⟨S1, .i32⟩
  | _, _ => ⟨S32768x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scs : Ref sig .scScalar := ⟨.hbm, 1, rfl⟩
abbrev main_v0_scs : Ref sig .scScalar := ⟨.hbm, 2, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S32768x64 : Shape := ⟨2, ![32768, 64]⟩
abbrev S1 : Shape := ⟨1, ![1]⟩
abbrev S10 : Shape := ⟨1, ![10]⟩
abbrev S_ : Shape := ⟨0, ![]⟩
abbrev S1x10 : Shape := ⟨2, ![1, 10]⟩
abbrev S1x1 : Shape := ⟨2, ![1, 1]⟩

abbrev nBuf : Space → Nat
  | .hbm => 46
  | .vmem => 0
  | .smem => 0
  | _ => 0

abbrev bufTy : (tb : Table) → Fin (tcTables nBuf tb) → BufTy
  | .hbm, ⟨0, _⟩ => ⟨S32768x64, .f32⟩
  | .hbm, ⟨1, _⟩ => ⟨S1, .i32⟩
  | .hbm, ⟨2, _⟩ => ⟨S10, .f32⟩
  | .hbm, ⟨3, _⟩ => ⟨S_, .f32⟩
  | .hbm, ⟨4, _⟩ => ⟨S10, .f32⟩
  | .hbm, ⟨5, _⟩ => ⟨S10, .f32⟩
  | .hbm, ⟨6, _⟩ => ⟨S_, .f32⟩
  | .hbm, ⟨7, _⟩ => ⟨S_, .f32⟩
  | .hbm, ⟨8, _⟩ => ⟨S10, .f32⟩
  | .hbm, ⟨9, _⟩ => ⟨S10, .f32⟩
  | .hbm, ⟨10, _⟩ => ⟨S_, .f32⟩
  | .hbm, ⟨11, _⟩ => ⟨S_, .f32⟩
  | .hbm, ⟨12, _⟩ => ⟨S10, .f32⟩
  | .hbm, ⟨13, _⟩ => ⟨S_, .f32⟩
  | .hbm, ⟨14, _⟩ => ⟨S10, .f32⟩
  | .hbm, ⟨15, _⟩ => ⟨S10, .f32⟩
  | .hbm, ⟨16, _⟩ => ⟨S_, .f32⟩
  | .hbm, ⟨17, _⟩ => ⟨S10, .f32⟩
  | .hbm, ⟨18, _⟩ => ⟨S10, .f32⟩
  | .hbm, ⟨19, _⟩ => ⟨S_, .f32⟩
  | .hbm, ⟨20, _⟩ => ⟨S10, .f32⟩
  | .hbm, ⟨21, _⟩ => ⟨S10, .f32⟩
  | .hbm, ⟨22, _⟩ => ⟨S10, .f32⟩
  | .hbm, ⟨23, _⟩ => ⟨S_, .f32⟩
  | .hbm, ⟨24, _⟩ => ⟨S10, .f32⟩
  | .hbm, ⟨25, _⟩ => ⟨S10, .f32⟩
  | .hbm, ⟨26, _⟩ => ⟨S10, .i32⟩
  | .hbm, ⟨27, _⟩ => ⟨S1x10, .i32⟩
  | .hbm, ⟨28, _⟩ => ⟨S1x1, .i32⟩
  | .hbm, ⟨29, _⟩ => ⟨S1x10, .i32⟩
  | .hbm, ⟨30, _⟩ => ⟨S1x10, .i1⟩
  | .hbm, ⟨31, _⟩ => ⟨S1x10, .i32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S1, .i1⟩
  | .hbm, ⟨40, _⟩ => ⟨S_, .i32⟩
  | .hbm, ⟨41, _⟩ => ⟨S1, .i32⟩
  | .hbm, ⟨42, _⟩ => ⟨S1, .i32⟩
  | .hbm, ⟨43, _⟩ => ⟨S1, .i32⟩
  | .hbm, ⟨44, _⟩ => ⟨S1x1, .i32⟩
  | .hbm, ⟨45, _⟩ => ⟨S1, .i32⟩
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_cst : Ref sig .tc := ⟨.hbm, 10, rfl⟩
abbrev main_call0_call0_v0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_v26 : Ref sig .tc := ⟨.hbm, 39, rfl⟩
abbrev main_c_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Proof.Sequencer.lean ====
/-
  The run of the bucketizer on the SparseCore's scalar subcore, over any float values.

  The one SparseCore call copies the capacity into the sequencer's scalar memory, replaces it there by the bin that a
  comparison tree finds for it (`bucket`), and copies that word out. `run_main`: every weakly fair execution of the
  device's threads ends, the result holds `bucket` of the capacity, both arguments are as they were, and every
  semaphore counter reads zero.
-/
module

public import proofs.«01_k».proof.Proof.Gen.KernelIdeal
public import proofs.«01_k».proof.Proof.Gen.KernelIdeal.Skeleton
public import Idealize.ShloMosaic.Lib.SparseCore.Quiescent
public import Idealize.ShloMosaic.Lib.Pipeline.Kit
public import Idealize.ShloMosaic.Lib.Tactic

@[expose] public section

noncomputable section

namespace Cert.Proof.Sequencer

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## What the kernel computes -/

/-- `a` where `e` is at least the capacity `x`, else `b`: one node of the comparison tree. -/
def node (e x a b : BitVec 32) : BitVec 32 := Scalar.select (Scalar.cmpi .sge e x) a b

/-- The kernel's comparison tree over the ten bin edges: the bin of the capacity `x`. -/
def bucket (x : BitVec 32) : BitVec 32 :=
  node 3008#32 x
    (node 1472#32 x (node 1216#32 x (node 1088#32 x 1088#32 1216#32) 1472#32) (node 1984#32 x 1984#32 3008#32))
    (node 17152#32 x (node 9088#32 x (node 5056#32 x 5056#32 9088#32) 17152#32) (node 33280#32 x 33280#32 65536#32))

/-! ## The program as the launch theorem reads it -/

abbrev K : SparseCore.Cfg τ sig (Pipeline.Sig Λ₀ (Fin 0) fun p => (pcfgs (F := F) p).Adm) 1 := sc (F := F)
abbrev D [FloatOps F] : Defs nD τ sig (Elt F) (Pipeline.Sig Λ₀ (Fin 0) fun p => (pcfgs (F := F) p).Adm) :=
  Pipeline.defs pcfgs defs₀
abbrev 𝒱₀ : Variants := Variants.none
abbrev 𝒱 : Variants := 𝒱₀.lift
abbrev v₀ : 𝒱.V := Sum.inl none

/-- The launch semaphores are four different unscoped ones, and no buffer is handed from task to task. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The ghost state: the handshakes' rounds beside the copies' counters. -/
abbrev UU : Type := URounds (GSem nD τ sig) ℕ × Counters

local notation "𝕄" => MT nD τ sig (HIx 1) (Elt F) ℕ UU ℕ

abbrev EH : Emb (URounds (GSem nD τ sig) ℕ) (MT nD τ sig (HIx 1) (Elt F) ℕ UU ℕ) := embL

variable (m : (ℓ : Loc nD τ sig) → Buf (Elt F) ℓ) (ρ : Dev nD → PrngReg)

-- the kernel's three arrays, spelt as the body table passes them: the capacity, the result, the scratch word
local notation "capW" => (Memref.whole Cert.KernelIdeal.main_arg1_scs : Memref Cert.KernelIdeal.sig Kind.scScalar Space.hbm Cert.KernelIdeal.S1 EltTy.i32)
local notation "outW" => (Memref.whole Cert.KernelIdeal.main_v0_scs : Memref Cert.KernelIdeal.sig Kind.scScalar Space.hbm Cert.KernelIdeal.S1 EltTy.i32)
local notation "wordW" => (Memref.whole Cert.KernelIdeal.cc0_scratch0 : Memref Cert.KernelIdeal.sig Kind.scScalar Space.smem Cert.KernelIdeal.S1 EltTy.i32)

abbrev gateLoc (d : Dev nD) : Loc nD τ sig := (SparseCore.T d).loc main_arg0
abbrev capLoc (d : Dev nD) : Loc nD τ sig := (SparseCore.T d).loc main_arg1
abbrev outLoc (d : Dev nD) : Loc nD τ sig := (SparseCore.T d).loc main_v0
/-- The scratch word in the scalar memory of SparseCore `c`'s sequencer. -/
abbrev wordLoc (d : Dev nD) (c : Fin τ.nSC) : Loc nD τ sig := (S d c).loc cc0_scratch0

/-- What the result holds at the end: at its one index the bin of the capacity. -/
def outVal (d : Dev nD) : Buf (Elt F) (outLoc d) := fun i : S1.Idx => bucket ((m (capLoc d) : S1.Idx → BitVec 32) i)

abbrev capPts (d : Dev nD) : sProp 𝕄 := capLoc d ↦{fullShare} m (capLoc d)
abbrev outPts (d : Dev nD) (f : Buf (Elt F) (outLoc d)) : sProp 𝕄 := outLoc d ↦{fullShare} f

/-- The call's payloads: the capacity and the result's buffer go to the sequencer, and come back with the result at the
    capacity's bin. -/
def P : (K (F := F)).Pay (nD := nD) (Val := Elt F) (Name := ℕ) (U := UU) where
  st := fun _ d _ => iprop(capPts m d ∗ ∃ f, outPts d f)
  dn := fun _ d _ => iprop(capPts m d ∗ outPts d (outVal m d))
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-- A one-word array has one index. -/
theorem one_idx (i j : S1.Idx) : i = j := by
  funext a
  exact Fin.ext (by have := (i a).isLt; have := (j a).isLt; fin_cases a; simp at *; omega)

/-! ## The body on the sequencer -/

section Body

variable (d : Dev nD)

def coordsS (c : Fin (grid0.bound 0)) : grid0.Coords := fun | 0 => c | ⟨_ + 1, h⟩ => absurd h (Nat.not_lt.2 (Nat.le_add_left _ _))

/-- The sequencer thread of SparseCore `c` of the call's grid. -/
abbrev Sq (c : Fin (grid0.bound 0)) : Thread nD τ := S d (c.castLE hcore0)

/-- The counter of copy `k`: 0 for the copy in, 1 for the copy out. -/
abbrev copyCell (c : Fin τ.nSC) (k : Fin 2) : GSem nD τ sig := (S d c, .dma (k : DmaSem sig))
abbrev cells0 (c : Fin τ.nSC) : sProp 𝕄 :=
  iprop(semVal (S d c, SemLoc.dma cc0_scoped0.sem) 0 ∗ semVal (S d c, SemLoc.dma cc0_scoped1.sem) 0)

theorem copyCell_mem (c : Fin τ.nSC) (k : Fin 2) : copyCell d c k ∈ ownCells (S d c) :=
  mem_ownCells.mpr ⟨rfl, (show ∀ s : DmaSem sig, (SemLoc.dma s : SemLoc sig).isScoped .scScalar = true by decide) _⟩

/-- The sequencer's own counters at zero: those of the two copies, and the others. -/
theorem ownSems0_S (c : Fin τ.nSC) :
    (ownSems0 (S d c) : sProp 𝕄)
      = iprop(cells0 d c ∗ bigSep ((ownCells (S d c)) \ Finset.univ.image (copyCell d c)) fun g => semVal g 0) := by
  unfold SparseCore.Cfg.ownSems0
  rw [SparseCore.bigSep_sdiff_split' (t := Finset.univ.image (copyCell d c)) (Finset.image_subset_iff.mpr fun k _ => copyCell_mem d c k),
    SparseCore.bigSep_image_of_injOn (fun a _ b _ h => by
      have := congrArg (fun g : GSem nD τ sig => g.2) h
      simpa only [SemLoc.dma.injEq] using this)]
  rw [show (Finset.univ : Finset (Fin 2)) = {0, 1} by decide, SparseCore.bigSep_insert' (by decide), bigSep_singleton]
  rfl

/-- The sequencer's own buffers: the scratch word at some contents, and the others. -/
theorem ownBufs_S (c : Fin τ.nSC) :
    (ownBufs (S d c) : sProp 𝕄)
      = iprop((∃ f, wordLoc d c ↦{fullShare} f)
          ∗ bigSep ((ownRefs (τ := τ) (.scScalar c)).erase ((Proc.scScalar c).devRef cc0_scratch0)) fun b => iprop(∃ f, ((d, b) : Loc nD τ sig) ↦{fullShare} f)) := by
  unfold SparseCore.Cfg.ownBufs
  exact SparseCore.bigSep_erase' ((mem_ownRefs (p := Proc.scScalar c) (b := (Proc.scScalar c).devRef cc0_scratch0)).mpr rfl)

theorem pts_cap (c : Fin τ.nSC) (f : Buf (Elt F) (capLoc d)) :
    ((capW).view.loc (S d c) ↦{fullShare} f : sProp 𝕄) = capLoc d ↦{fullShare} f := by
  simp only [Memref.view_whole, View.set_whole]
theorem pts_out (c : Fin τ.nSC) (f : Buf (Elt F) (outLoc d)) :
    ((outW).view.loc (S d c) ↦{fullShare} f : sProp 𝕄) = outLoc d ↦{fullShare} f := by
  simp only [Memref.view_whole, View.set_whole]
theorem pts_word (c : Fin τ.nSC) (f : Buf (Elt F) (wordLoc d c)) :
    ((wordW).view.loc (S d c) ↦{fullShare} f : sProp 𝕄) = wordLoc d c ↦{fullShare} f := by
  simp only [Memref.view_whole, View.set_whole]

variable [FloatOps F]

/-- The body, from the capacity, the result's buffer, the scratch word and the two counters at zero: the same again, the
    result at the capacity's bin. -/
theorem seq_run (c : Fin (grid0.bound 0)) (O : CellTallies nD τ sig (HIx 1)) (W : Waits sig (HIx 1))
    (fo : Buf (Elt F) ((outW).view.loc (Sq d c))) (fs : Buf (Elt F) ((wordW).view.loc (Sq d c))) :
    (iprop(Transfers.MayWaits (Sq d c) (none : HIx 1) O
        ∗ ((capW).view.loc (Sq d c) ↦{fullShare} m (capLoc d))
        ∗ ((outW).view.loc (Sq d c) ↦{fullShare} fo)
        ∗ ((wordW).view.loc (Sq d c) ↦{fullShare} fs)
        ∗ cells0 d (c.castLE hcore0)
        ∗ owes (Sq d c) O W) : sProp 𝕄)
      ⊢ wp frame (wpE (defs₀ (F := F)) 𝒱₀ (Sq d c) none) Set.univ
          (cc0__bucketize_sc (coordsS c) capW (Memref.isWhole_whole _) outW (Memref.isWhole_whole _)
            wordW (Memref.isWhole_whole _) cc0_scoped0 cc0_scoped1)
          fun _ => iprop(((capW).view.loc (Sq d c) ↦{fullShare} m (capLoc d))
            ∗ ((outW).view.loc (Sq d c) ↦{fullShare} outVal m d)
            ∗ (∃ f, (wordW).view.loc (Sq d c) ↦{fullShare} f)
            ∗ cells0 d (c.castLE hcore0)
            ∗ ∃ W', owes (Sq d c) O W') := by
  rw [cc0__bucketize_sc_eq_skeleton]
  iintro ⟨#Hmw, Hc, Ho, Hs, ⟨Hc0, Hc1⟩, HO⟩
  sl_unfold [cc0__bucketize_sc_skel]
  sl_exec
  sl_step
  have e : View.write (Elt F) (Memref.whole main_v0_scs).view fo (seq_run.sl.dma3 m d c fs) Finset.univ = outVal m d := by
    funext i
    delta seq_run.sl.dma3 seq_run.sl.dma0 seq_run.sl.Hs_1
    refine (congrFun (View.write_whole_univ main_v0_scs _ _) i).trans ?_
    obtain ⟨j, rfl⟩ : ∃ j, (Rect.unit (s := S1) ![0] S1.size inb_S1_S1_0).emb j = i := ⟨i, one_idx _ i⟩
    refine (View.read_writes_cons_emb _ _ _ _ _ _).trans ?_
    delta seq_run.sl.v19
    delta seq_run.sl.v2 seq_run.sl.v10 seq_run.sl.v18
    delta seq_run.sl.v3 seq_run.sl.v7 seq_run.sl.v9 seq_run.sl.v11 seq_run.sl.v15 seq_run.sl.v17
    delta seq_run.sl.v4 seq_run.sl.v6 seq_run.sl.v8 seq_run.sl.v12 seq_run.sl.v14 seq_run.sl.v16
    delta seq_run.sl.v5 seq_run.sl.v13
    have hr : seq_run.sl.r m d c fs = (m (capLoc d) : S1.Idx → BitVec 32) ((Rect.unit (s := S1) ![0] S1.size inb_S1_S1_0).emb j) := by
      delta seq_run.sl.r seq_run.sl.dma0
      rw [View.readAt_apply]
      have hw : ∀ g i, View.read (Elt F) (Memref.whole cc0_scratch0).view
          (View.write (Elt F) (Memref.whole cc0_scratch0).view fs g Finset.univ) i = g i := fun g i =>
        congrFun (View.write_whole_univ cc0_scratch0 fs g) i
      refine (hw _ _).trans ?_
      exact congrArg (m (capLoc d) : S1.Idx → BitVec 32) (one_idx _ _)
    rw [hr]
    rfl
  rw [e]
  isplitl [Hc]; · iexact Hc
  isplitl [Ho]; · iexact Ho
  isplitl [Hs]; · iexists _; iexact Hs
  isplitl [Hc0 Hc1]
  · isplitl [Hc0]; · iexact Hc0
    iexact Hc1
  iexists _; iexact HO

/-- The same in the launch's shape: the sequencer's buffers and counters opened at those the body names, and closed
    again; with one call in the program every recorded wait is of it or of none. -/
theorem seq_body (hF : (K (F := F)).Facts) (c : Fin (grid0.bound 0)) (O : CellTallies nD τ sig (HIx 1)) (W : Waits sig (HIx 1))
    (hO : ∀ g, O g none = 0) :
    iprop(levAts (K (F := F)).L (K (F := F)).lev ∗ emp ∗ (capPts m d ∗ ∃ f, outPts d f)
        ∗ scopedBufs (Sq d c) ∗ scopedSems0 (Sq d c) ∗ owes (Sq d c) O W)
      ⊢ wp frame (wpE (defs₀ (F := F)) 𝒱₀ (Sq d c) none) Set.univ
          (cc0__bucketize_sc (coordsS c) capW (Memref.isWhole_whole _) outW (Memref.isWhole_whole _)
            wordW (Memref.isWhole_whole _) cc0_scoped0 cc0_scoped1)
          fun _ => iprop((capPts m d ∗ outPts d (outVal m d)) ∗ scopedBufs (Sq d c) ∗ scopedSems0 (Sq d c)
            ∗ ∃ W', ⌜∀ p ∈ W', p ∈ W ∨ p.2 = none ∨ p.2 = some (0 : Fin 1)⌝ ∗ owes (Sq d c) O W') := by
  rw [(K (F := F)).scopedBufs_S hF d _, SparseCore.Cfg.scopedSems0_S (Val := Elt F) d _, ownSems0_S, ownBufs_S]
  iintro ⟨#Hlv, -, ⟨Hc, %fo, Ho⟩, ⟨⟨⟨%fs, Hs⟩, Hbufs⟩, Htiles⟩, ⟨⟨HC, Hsems⟩, HtileSems⟩, HO⟩
  ihave Hmw := ((K (F := F)).mayWaits_none (thr := Sq d c) hO) $$ Hlv
  ihave Hc' := (Entails.of_eq (pts_cap (F := F) d _ _).symm) $$ Hc
  ihave Ho' := (Entails.of_eq (pts_out (F := F) d _ _).symm) $$ Ho
  ihave Hs' := (Entails.of_eq (pts_word (F := F) d _ _).symm) $$ Hs
  iapply (wp_wand_r Idealize.ShloMosaic.frame (wpE (defs₀ (F := F)) 𝒱₀ (Sq d c) none) Set.univ)
  isplitl [Hc' Ho' Hs' HC HO]
  · iapply (seq_run m d c O W _ _)
    isplitr; · iexact Hmw
    isplitl [Hc']; · iexact Hc'
    isplitl [Ho']; · iexact Ho'
    isplitl [Hs']; · iexact Hs'
    isplitl [HC]; · iexact HC
    iexact HO
  iintro %_ ⟨Hc', Ho', ⟨%fs', Hs'⟩, HC, %W', HO⟩
  isplitl [Hc' Ho']
  · isplitl [Hc']; · iapply (Entails.of_eq (pts_cap (F := F) d _ _)); iexact Hc'
    iapply (Entails.of_eq (pts_out (F := F) d _ _)); iexact Ho'
  isplitl [Hs' Hbufs Htiles]
  · isplitl [Hs' Hbufs]
    · isplitl [Hs']; · iexists _; iapply (Entails.of_eq (pts_word (F := F) d _ _)); iexact Hs'
      iexact Hbufs
    iexact Htiles
  isplitl [HC Hsems HtileSems]
  · isplitl [HC Hsems]
    · isplitl [HC]; · iexact HC
      iexact Hsems
    iexact HtileSems
  iexists W'; isplitr
  · ipureintro; intro p _
    rcases p.2 with _ | q
    · exact .inr (.inl rfl)
    · exact .inr (.inr (congrArg some (Subsingleton.elim q 0)))
  · iexact HO

end Body

/-! ## What the launch theorem asks of the call -/

variable [FloatOps F]

theorem defs₀_scalar (c : Fin τ.nSC) :
    defs₀ (F := F) (.scScalar c) 0 ()
      = SparseCore.onCore hcore0 (fun c => cc0__bucketize_sc (coordsS c) capW (Memref.isWhole_whole _) outW (Memref.isWhole_whole _)
          wordW (Memref.isWhole_whole _) cc0_scoped0 cc0_scoped1) ⟨⟩ c := rfl

/-- The sequencer of the call's SparseCore takes the call's payload to its return. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact seq_body m d facts ⟨c.val, c.isLt⟩ O W hO

/-! ## The start of the ghost state -/

def u₀ : UU := (initOf (K (F := F)).hsCells (K (F := F)).hsToks, 1)

omit [FloatOps F] in
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## The main program -/

omit [FloatOps F] in
theorem unscopedBufs_eq (d : Dev nD) (W : (b : Ref sig .tc) → Buf (Elt F) ((d.tc : Thread nD τ).loc b)) :
    (unscopedBufs d W : sProp 𝕄) = iprop((gateLoc d ↦{fullShare} W main_arg0) ∗ (capLoc d ↦{fullShare} W main_arg1) ∗ outLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

omit [FloatOps F] in
theorem st0_eq (d : Dev nD) : (bigSep Finset.univ fun c : Fin ((K (F := F)).nCore 0) => (P m).st 0 d c) = iprop(capPts m d ∗ ∃ f, outPts d f) :=
  bigSep_univ_of_subsingleton (0 : Fin 1)
omit [FloatOps F] in
theorem dn0_eq (d : Dev nD) : (bigSep Finset.univ fun c : Fin ((K (F := F)).nCore 0) => (P m).dn 0 d c) = iprop(capPts m d ∗ outPts d (outVal m d)) :=
  bigSep_univ_of_subsingleton (0 : Fin 1)

/-- What the main program leaves: both arguments as they were, the result at the capacity's bin. -/
abbrev FIN (d : Dev nD) : sProp 𝕄 :=
  iprop((gateLoc d ↦{fullShare} m (gateLoc d)) ∗ capPts m d ∗ outPts d (outVal m d))

/-- The main program: the one call, from the capacity and the result's buffer; the gate's array stays put. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hg, Hc, Ho⟩, Hts, -⟩, -⟩
  iapply ((K (F := F)).wp_run (D (F := F)) 𝒱 (EH := EH) (P := P m) κ d 0) $$ [Hst Hg Hc Ho Hb Hts]
  isplitr; · iexact Hctx
  isplitl [Hst]; · iexact Hst
  isplitl [Hc Ho]
  · rw [st0_eq]
    isplitl [Hc]; · iexact Hc
    iexists _; iexact Ho
  iintro ⟨Hst, Hdn⟩
  ihave Hdn' := (Entails.of_eq (dn0_eq m d)) $$ Hdn
  icases Hdn' with ⟨Hc, Ho⟩
  imodintro
  isplitl [Hst]; · iexact Hst
  isplitr [Hb Hts]
  · isplitl [Hg]; · iexact Hg
    isplitl [Hc]; · iexact Hc
    iexact Ho
  isplitl [Hb] <;> iassumption

def fq (d : Dev nD) (s' : Phys nD τ sig (Elt F)) : Prop :=
  s'.mem.mem (outLoc d) = outVal m d ∧ s'.mem.mem (gateLoc d) = m (gateLoc d) ∧ s'.mem.mem (capLoc d) = m (capLoc d)

omit [FloatOps F] in
/-- What is owned whole is what the memory holds. -/
theorem agree_whole (s' : Phys nD τ sig (Elt F)) (ℓ : Loc nD τ sig) (f : Buf (Elt F) ℓ) :
    iprop((ℓ ↦{fullShare} f) ∗ SI s') ⊢ (⌜s'.mem.mem ℓ = f⌝ : sProp 𝕄) := by
  iintro ⟨H, HSI⟩
  ihave H := (SI_pointsTo_agree (st := s') (ℓ := ℓ) (I := Finset.univ) (q := fullShare) (f := f)) $$ [HSI H]
  · isplitl [HSI] <;> iassumption
  icases H with %h
  ipureintro; exact funext fun i => h i (Finset.mem_univ i)

omit [FloatOps F] in
theorem hfin (d : Dev nD) (s' : Phys nD τ sig (Elt F)) : iprop(FIN m d ∗ SI s') ⊢ (⌜fq m d s'⌝ : sProp 𝕄) := by
  have hg : iprop(FIN m d ∗ SI s') ⊢ (⌜s'.mem.mem (gateLoc d) = m (gateLoc d)⌝ : sProp 𝕄) := by
    iintro ⟨⟨H, -, -⟩, HSI⟩
    iapply (agree_whole s' (gateLoc d) (m (gateLoc d))); isplitl [H] <;> iassumption
  have hc : iprop(FIN m d ∗ SI s') ⊢ (⌜s'.mem.mem (capLoc d) = m (capLoc d)⌝ : sProp 𝕄) := by
    iintro ⟨⟨-, H, -⟩, HSI⟩
    iapply (agree_whole s' (capLoc d) (m (capLoc d))); isplitl [H] <;> iassumption
  have ho : iprop(FIN m d ∗ SI s') ⊢ (⌜s'.mem.mem (outLoc d) = outVal m d⌝ : sProp 𝕄) := by
    iintro ⟨⟨-, -, H⟩, HSI⟩
    iapply (agree_whole s' (outLoc d) (outVal m d)); isplitl [H] <;> iassumption
  refine (BI.Laws.and_intro ho (BI.Laws.and_intro hg hc)).trans ?_
  iintro ⟨%h1, %h2, %h3⟩
  ipureintro; exact ⟨h1, h2, h3⟩

/-! ## The program's run -/

def QC : PUnit × MemSt nD τ sig (Elt F) → Prop := fun r =>
  (∀ c : Dev nD, r.2.mem (outLoc c) = outVal m c ∧ r.2.mem (gateLoc c) = m (gateLoc c) ∧ r.2.mem (capLoc c) = m (capLoc c))
    ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.Sequencer

end
-- ==== Proof.Bins.lean ====
/-
  What the reference computes, at the exact reading of floats.

  Its ten bin edges are `ceil ((1024 + 64512 · (2^(k+1) - 1) / 1023) / 64) · 64`, which are 1088, 1216, 1472, 1984, 3008,
  5056, 9088, 17152, 33280 and 65536 exactly (`edges_eq`). Its result is the edge whose number is the count of edges below
  the capacity, or the last edge where all ten are below it (`res_eq`), and that is what the comparison tree finds
  (`pick_eq_bucket`).
-/
module

public import proofs.«01_k».proof.Proof.Gen.ReferenceIdeal
public import proofs.«01_k».proof.Proof.Gen.ReferenceIdeal.Run
public import proofs.«01_k».proof.Proof.Sequencer
public import Idealize.ShloMosaic.Lib.IdealHost
public import Idealize.ShloMosaic.Lib.Pointwise.Index
public import Idealize.ShloMosaic.Lib.Routing.OpsSet

@[expose] public section

noncomputable section

namespace Cert.Proof.Bins

open Cert.ReferenceIdeal Cert.ReferenceIdeal.Gen

open Idealize.ShloMosaic hiding ix0 ix1 ix2
open Idealize.ShloMosaic.ValueIdx
open Cert.Proof.Sequencer (node bucket)
open scoped BigOperators

/-! ## Folds over the positions of a short array -/

/-- A fold over the positions of an array of `N` elements, whatever term its extent is given by. -/
theorem foldl_positions {β : Type} {M N : Nat} (e : M = N) (f : β → Fin N → β) (v : β) :
    (List.finRange M).foldl (fun r n => f r (n.cast e)) v = (List.finRange N).foldl f v := by
  subst e; rfl

/-- A running fold over ten elements, the window reaching nine back: position `j` folds the elements up to and with its
    own, the window's part before the array holding the start value. -/
theorem window_fold {α : Type} (f : α → α → α) (x : S10.Idx → α) (v : α)
    (h : S10.ReduceWindows (![10] : Fin 1 → Nat) ![1] ![9] ![0] S10) (hu : 0 < (⟨0, ![]⟩ : Shape).numel) (j : Fin 10) :
    Host.reduceWindow (u := ⟨0, ![]⟩) f ![10] ![1] ![9] ![0] x (fun _ => v) h hu (ix1 j)
      = (List.finRange 10).foldl (fun r (n : Fin 10) => f r (if hin : 9 ≤ j.val + n.val then x (ix1 ⟨j.val + n.val - 9, by omega⟩) else v)) v := by
  unfold Host.reduceWindow
  refine Eq.trans ?_ (foldl_positions (Routing.numel1 10) _ v)
  dsimp only
  congr 1
  funext r n
  have hw : ((Routing.shape1 10).rowMajor.symm n 0).val = n.val := by rw [Routing.symm1]; rfl
  have hn : n.val < 10 := (n.cast (Routing.numel1 10)).isLt
  refine congrArg (f r) ?_
  by_cases hle : 9 ≤ j.val + n.val
  · rw [dif_pos (show 9 ≤ j.val + (n.cast (Routing.numel1 10)).val from hle), dif_pos]
    · refine congrArg x (funext fun a => Fin.ext ?_)
      match a with
      | ⟨0, _⟩ =>
        show j.val * 1 + ((Routing.shape1 10).rowMajor.symm n 0).val - 9 = j.val + n.val - 9
        rw [hw, Nat.mul_one]
    · intro a
      match a with
      | ⟨0, _⟩ =>
        show 9 ≤ j.val * 1 + ((Routing.shape1 10).rowMajor.symm n 0).val
          ∧ j.val * 1 + ((Routing.shape1 10).rowMajor.symm n 0).val - 9 < 10
        rw [hw]
        have := j.isLt
        omega
  · rw [dif_neg (show ¬ 9 ≤ j.val + (n.cast (Routing.numel1 10)).val from hle), dif_neg]
    intro hin
    have h0 := hin 0
    change 9 ≤ j.val * 1 + ((Routing.shape1 10).rowMajor.symm n 0).val ∧ _ at h0
    rw [hw] at h0
    omega

/-- The sum along a row of ten words is the fold of the ten from zero. -/
theorem row_fold (x : IVec S1x10 32) (h : S1x10.ReducesTo [1] S1) (hu : 0 < S_.numel) (j : S1.Idx) :
    Host.reduce IntOp.addi x (constantI S_ 32 0#32) h hu j
      = (List.finRange 10).foldl (fun r k => IntOp.addi r (x (ix2 (0 : Fin 1) k))) 0#32 := by
  unfold Host.reduce
  rw [List.filter_eq_self.mpr fun n _ => decide_eq_true (Sequencer.one_idx _ _)]
  refine Eq.trans ?_ (foldl_positions (Routing.numel2 10) _ _)
  congr 1
  funext r n
  exact congrArg (IntOp.addi r) (congrArg x (Routing.symm2 n))

/-! ## The ten edges -/

theorem two_f32 : Ideal.ofBits .f32 0x40000000#32 = ((2 : ℝ) : EReal) := by
  simp [Ideal.ofBits, Ideal.ieee, -EReal.coe_mul]; norm_num
theorem span_f32 : Ideal.ofBits .f32 0x477C0000#32 = ((64512 : ℝ) : EReal) := by
  simp [Ideal.ofBits, Ideal.ieee, -EReal.coe_mul]; norm_num
theorem start_f32 : Ideal.ofBits .f32 0x44800000#32 = ((1024 : ℝ) : EReal) := by
  simp [Ideal.ofBits, Ideal.ieee, -EReal.coe_mul]; norm_num
theorem step_f32 : Ideal.ofBits .f32 0x42800000#32 = ((64 : ℝ) : EReal) := by
  simp [Ideal.ofBits, Ideal.ieee, -EReal.coe_mul]; norm_num

/-- The powers of two `2^0 … 2^9`, as the reference makes them. -/
def powers : FVec Ideal S10 .f32 :=
  Host.powf (broadcastInDim S10 ![] bcast_S_S10 (constant S_ .f32 0x40000000#32)) (sitofp .f32 (iotaInDim S10 32 0))

theorem powers_apply (k : Fin 10) : powers (ix1 k) = (((2 : ℝ) ^ k.val : ℝ) : EReal) := by
  show Ideal.pow (broadcastInDim S10 ![] bcast_S_S10 (constant (F := Ideal) S_ .f32 0x40000000#32) (ix1 k))
    ((((BitVec.ofNat 32 k.val).toInt : ℤ) : ℝ) : EReal) = _
  rw [broadcastInDim_scalar_apply]
  show Ideal.pow (Ideal.ofBits .f32 0x40000000#32) _ = _
  rw [two_f32]
  have hk : (BitVec.ofNat 32 k.val).toInt = (k.val : ℤ) := by fin_cases k <;> rfl
  rw [hk]
  show ((Real.rpow 2 (((k.val : ℕ) : ℤ) : ℝ) : ℝ) : EReal) = _
  rw [Int.cast_natCast]
  exact congrArg _ (Real.rpow_natCast 2 k.val)

/-- Their sum. -/
def total : FVec Ideal S_ .f32 := Host.reduceAdd powers (constant S_ .f32 0x00000000#32) reducesTo_S10_S_d0 h_S_

theorem total_apply (i : S_.Idx) : total i = ((1023 : ℝ) : EReal) := by
  unfold total
  rw [hostReduceAdd_apply, Ideal.hostReduceAdd_total _ (fun b => b.elim0)]
  show Ideal.ofBits .f32 0x00000000#32 + _ = _
  rw [Ideal.ofBits_zero_f32, zero_add]
  refine (Idealize.ShloMosaic.sum_idx1 (n0 := 10) powers).trans ?_
  refine (Finset.sum_congr rfl fun k _ => powers_apply k).trans ?_
  simp [Fin.sum_univ_succ]
  exact_mod_cast (by norm_num : (1 : ℝ) + (2 + (2 ^ 2 + (2 ^ 3 + (2 ^ 4 + (2 ^ 5 + (2 ^ 6 + (2 ^ 7 + (2 ^ 8 + 2 ^ 9)))))))) = 1023)

/-- The share of each bin. -/
def shares : FVec Ideal S10 .f32 := Host.divf powers (broadcastInDim S10 ![] bcast_S_S10 total)

theorem shares_apply (k : Fin 10) : shares (ix1 k) = (((2 : ℝ) ^ k.val / 1023 : ℝ) : EReal) := by
  unfold shares
  rw [hostDivf_apply, broadcastInDim_scalar_apply, total_apply, powers_apply k, Ideal.div_coe (by norm_num), ← EReal.coe_mul]
  congr 1
  ring

/-- The running sum of the shares. -/
def running : FVec Ideal S10 .f32 :=
  Host.reduceWindowAdd ![10] ![1] ![9] ![0] shares (broadcastInDim S_ ![] bcast_S_S_ (constant S_ .f32 0x00000000#32))
    reduceWindows_S10_S10_w10s1p9_0 h_S_

theorem running_apply (k : Fin 10) : running (ix1 k) = ((((2 : ℝ) ^ (k.val + 1) - 1) / 1023 : ℝ) : EReal) := by
  have hz : broadcastInDim S_ ![] bcast_S_S_ (constant (F := Ideal) S_ .f32 0x00000000#32) (Shape.Idx.first h_S_) = ((0 : ℝ) : EReal) := by
    rw [broadcastInDim_scalar_apply]
    exact Ideal.ofBits_zero_f32
  show Host.reduceWindow (u := ⟨0, ![]⟩) (· + ·) ![10] ![1] ![9] ![0] shares (fun _ => broadcastInDim S_ ![] bcast_S_S_ (constant (F := Ideal) S_ .f32 0x00000000#32) (Shape.Idx.first h_S_))
    reduceWindows_S10_S10_w10s1p9_0 h_S_ (ix1 k) = _
  rw [hz, window_fold]
  simp only [shares_apply]
  fin_cases k <;> simp [List.finRange_succ, ← EReal.coe_add] <;> norm_num

/-- The ten edges as the reference makes them. -/
def edges : IVec S10 32 :=
  fptosi 32 (mulf (Host.ceil (Host.divf
    (addf (broadcastInDim S10 ![] bcast_S_S10 (constant S_ .f32 0x44800000#32))
      (mulf (broadcastInDim S10 ![] bcast_S_S10 (constant S_ .f32 0x477C0000#32)) running))
    (broadcastInDim S10 ![] bcast_S_S10 (constant S_ .f32 0x42800000#32))))
    (broadcastInDim S10 ![] bcast_S_S10 (constant S_ .f32 0x42800000#32)) : FVec Ideal S10 .f32)

/-- The ten edges in numbers. -/
def edge : Fin 10 → BitVec 32 :=
  ![1088#32, 1216#32, 1472#32, 1984#32, 3008#32, 5056#32, 9088#32, 17152#32, 33280#32, 65536#32]

theorem edges_eq (k : Fin 10) : edges (ix1 k) = edge k := by
  have hb : ∀ b : BitVec 32, broadcastInDim S10 ![] bcast_S_S10 (constant (F := Ideal) S_ .f32 b) (ix1 k) = Ideal.ofBits .f32 b := fun b => by
    rw [broadcastInDim_scalar_apply]; rfl
  show Ideal.fptosi 32 (Ideal.liftRound Int.ceil (Ideal.div
      (broadcastInDim S10 ![] bcast_S_S10 (constant (F := Ideal) S_ .f32 0x44800000#32) (ix1 k)
        + broadcastInDim S10 ![] bcast_S_S10 (constant (F := Ideal) S_ .f32 0x477C0000#32) (ix1 k) * running (ix1 k))
      (broadcastInDim S10 ![] bcast_S_S10 (constant (F := Ideal) S_ .f32 0x42800000#32) (ix1 k)))
    * broadcastInDim S10 ![] bcast_S_S10 (constant (F := Ideal) S_ .f32 0x42800000#32) (ix1 k)) = _
  rw [hb, hb, hb, start_f32, span_f32, step_f32, running_apply k, ← EReal.coe_mul, ← EReal.coe_add, Ideal.div_coe (by norm_num),
    ← EReal.coe_mul, Ideal.liftRound_coe, ← EReal.coe_mul]
  have go : ∀ n : ℤ, ⌈(1024 + 64512 * (((2 : ℝ) ^ (k.val + 1) - 1) / 1023)) * (1 / 64)⌉ = n → 0 ≤ n → n ≤ 1024 →
      BitVec.ofInt 32 (n * 64) = edge k →
      Ideal.fptosi 32 (((⌈(1024 + 64512 * (((2 : ℝ) ^ (k.val + 1) - 1) / 1023)) * (1 / 64)⌉ : ℝ) * 64 : ℝ) : EReal) = edge k := by
    intro n hn h0 h1 he
    rw [hn, Ideal.fptosi, Ideal.toIntClamped_coe, show ((n : ℝ) * 64) = ((n * 64 : ℤ) : ℝ) by push_cast; ring, Int.floor_intCast,
      Int.ceil_intCast, ite_self, ← he]
    congr 1
    norm_num
    omega
  fin_cases k
  · exact go 17 (by rw [Int.ceil_eq_iff]; norm_num) (by norm_num) (by norm_num) rfl
  · exact go 19 (by rw [Int.ceil_eq_iff]; norm_num) (by norm_num) (by norm_num) rfl
  · exact go 23 (by rw [Int.ceil_eq_iff]; norm_num) (by norm_num) (by norm_num) rfl
  · exact go 31 (by rw [Int.ceil_eq_iff]; norm_num) (by norm_num) (by norm_num) rfl
  · exact go 47 (by rw [Int.ceil_eq_iff]; norm_num) (by norm_num) (by norm_num) rfl
  · exact go 79 (by rw [Int.ceil_eq_iff]; norm_num) (by norm_num) (by norm_num) rfl
  · exact go 142 (by rw [Int.ceil_eq_iff]; norm_num) (by norm_num) (by norm_num) rfl
  · exact go 268 (by rw [Int.ceil_eq_iff]; norm_num) (by norm_num) (by norm_num) rfl
  · exact go 520 (by rw [Int.ceil_eq_iff]; norm_num) (by norm_num) (by norm_num) rfl
  · exact go 1024 (by rw [Int.ceil_eq_iff]; norm_num) (by norm_num) (by norm_num) rfl

/-! ## The pick among them -/

/-- How many edges are below the capacity `x`, as the reference counts them. -/
def below (x : BitVec 32) : BitVec 32 :=
  (List.finRange 10).foldl (fun r k => IntOp.addi r ((IntOp.cmpi .slt (edge k) x).setWidth 32)) 0#32

/-- The number of the picked edge: the count, at most nine, read from the end were it negative. -/
def position (x : BitVec 32) : BitVec 32 :=
  Scalar.select (IntOp.cmpi .slt (IntOp.minsi (below x) 9#32) 0#32) (IntOp.addi (IntOp.minsi (below x) 9#32) 10#32)
    (IntOp.minsi (below x) 9#32)

theorem lt_eq (e x : BitVec 32) : (IntOp.cmpi .slt e x).setWidth 32 = if e.toInt < x.toInt then 1#32 else 0#32 := by
  show (BitVec.ofBool (e.slt x)).setWidth 32 = _
  rw [BitVec.slt_eq_decide]
  by_cases h : e.toInt < x.toInt
  · rw [decide_eq_true h, if_pos h]; rfl
  · rw [decide_eq_false h, if_neg h]; rfl

theorem node_eq (e x a b : BitVec 32) : node e x a b = if x.toInt ≤ e.toInt then a else b := by
  show (if BitVec.ofBool (x.sle e) = 1#1 then a else b) = _
  rw [BitVec.sle_eq_decide]
  by_cases h : x.toInt ≤ e.toInt
  · rw [decide_eq_true h, if_pos h]; rfl
  · rw [decide_eq_false h, if_neg h]; rfl

/-- Where the capacity is above just the first `n` edges, the count is `n`. -/
theorem below_eq (x : BitVec 32) (n : Nat) (h : ∀ k : Fin 10, (edge k).toInt < x.toInt ↔ k.val < n) :
    below x = (List.finRange 10).foldl (fun r k => r + if k.val < n then 1#32 else 0#32) 0#32 := by
  unfold below
  congr 1
  funext r k
  show r + _ = _
  rw [lt_eq]
  simp only [h k]

/-- The picked position is in the table, and the edge there is the comparison tree's. -/
theorem pick_eq_bucket (x : BitVec 32) : ∃ b : Fin 10, position x = BitVec.ofNat 32 b.val ∧ edge b = bucket x := by
  have hp : ∀ n : Nat, n ≤ 10 → (∀ k : Fin 10, (edge k).toInt < x.toInt ↔ k.val < n) → position x = BitVec.ofNat 32 (min n 9) := by
    intro n hn h
    unfold position
    rw [below_eq x n h]
    interval_cases n <;> rfl
  have key : ∀ n : Nat, ∀ hn : n ≤ 10, (∀ k : Fin 10, (edge k).toInt < x.toInt ↔ k.val < n) → edge ⟨min n 9, by omega⟩ = bucket x →
      ∃ b : Fin 10, position x = BitVec.ofNat 32 b.val ∧ edge b = bucket x := fun n hn h he => ⟨⟨min n 9, by omega⟩, hp n hn h, he⟩
  have t0 : (1088#32 : BitVec 32).toInt = 1088 := rfl
  have t1 : (1216#32 : BitVec 32).toInt = 1216 := rfl
  have t2 : (1472#32 : BitVec 32).toInt = 1472 := rfl
  have t3 : (1984#32 : BitVec 32).toInt = 1984 := rfl
  have t4 : (3008#32 : BitVec 32).toInt = 3008 := rfl
  have t5 : (5056#32 : BitVec 32).toInt = 5056 := rfl
  have t6 : (9088#32 : BitVec 32).toInt = 9088 := rfl
  have t7 : (17152#32 : BitVec 32).toInt = 17152 := rfl
  have t8 : (33280#32 : BitVec 32).toInt = 33280 := rfl
  have t9 : (65536#32 : BitVec 32).toInt = 65536 := rfl
  have hb : bucket x = if x.toInt ≤ 3008 then
      if x.toInt ≤ 1472 then if x.toInt ≤ 1216 then if x.toInt ≤ 1088 then 1088#32 else 1216#32 else 1472#32
      else if x.toInt ≤ 1984 then 1984#32 else 3008#32
    else if x.toInt ≤ 17152 then if x.toInt ≤ 9088 then if x.toInt ≤ 5056 then 5056#32 else 9088#32 else 17152#32
      else if x.toInt ≤ 33280 then 33280#32 else 65536#32 := by
    unfold bucket
    simp only [node_eq, t0, t1, t2, t3, t4, t5, t6, t7, t8, t9]
  have hk : ∀ (n : Nat), (1088 < x.toInt ↔ 0 < n) → (1216 < x.toInt ↔ 1 < n) → (1472 < x.toInt ↔ 2 < n) → (1984 < x.toInt ↔ 3 < n)
      → (3008 < x.toInt ↔ 4 < n) → (5056 < x.toInt ↔ 5 < n) → (9088 < x.toInt ↔ 6 < n) → (17152 < x.toInt ↔ 7 < n)
      → (33280 < x.toInt ↔ 8 < n) → (65536 < x.toInt ↔ 9 < n) → ∀ k : Fin 10, (edge k).toInt < x.toInt ↔ k.val < n := by
    intro n h0 h1 h2 h3 h4 h5 h6 h7 h8 h9 k
    match k with
    | 0 => exact h0
    | 1 => exact h1
    | 2 => exact h2
    | 3 => exact h3
    | 4 => exact h4
    | 5 => exact h5
    | 6 => exact h6
    | 7 => exact h7
    | 8 => exact h8
    | 9 => exact h9
  have cases : x.toInt ≤ 1088 ∨ (1088 < x.toInt ∧ x.toInt ≤ 1216) ∨ (1216 < x.toInt ∧ x.toInt ≤ 1472) ∨ (1472 < x.toInt ∧ x.toInt ≤ 1984)
      ∨ (1984 < x.toInt ∧ x.toInt ≤ 3008) ∨ (3008 < x.toInt ∧ x.toInt ≤ 5056) ∨ (5056 < x.toInt ∧ x.toInt ≤ 9088)
      ∨ (9088 < x.toInt ∧ x.toInt ≤ 17152) ∨ (17152 < x.toInt ∧ x.toInt ≤ 33280) ∨ (33280 < x.toInt ∧ x.toInt ≤ 65536)
      ∨ 65536 < x.toInt := by omega
  rcases cases with h | h | h | h | h | h | h | h | h | h | h
  · exact key 0 (by omega) (hk 0 (by omega) (by omega) (by omega) (by omega) (by omega) (by omega) (by omega) (by omega) (by omega) (by omega))
      (by rw [hb]; split_ifs <;> first | rfl | omega)
  · exact key 1 (by omega) (hk 1 (by omega) (by omega) (by omega) (by omega) (by omega) (by omega) (by omega) (by omega) (by omega) (by omega))
      (by rw [hb]; split_ifs <;> first | rfl | omega)
  · exact key 2 (by omega) (hk 2 (by omega) (by omega) (by omega) (by omega) (by omega) (by omega) (by omega) (by omega) (by omega) (by omega))
      (by rw [hb]; split_ifs <;> first | rfl | omega)
  · exact key 3 (by omega) (hk 3 (by omega) (by omega) (by omega) (by omega) (by omega) (by omega) (by omega) (by omega) (by omega) (by omega))
      (by rw [hb]; split_ifs <;> first | rfl | omega)
  · exact key 4 (by omega) (hk 4 (by omega) (by omega) (by omega) (by omega) (by omega) (by omega) (by omega) (by omega) (by omega) (by omega))
      (by rw [hb]; split_ifs <;> first | rfl | omega)
  · exact key 5 (by omega) (hk 5 (by omega) (by omega) (by omega) (by omega) (by omega) (by omega) (by omega) (by omega) (by omega) (by omega))
      (by rw [hb]; split_ifs <;> first | rfl | omega)
  · exact key 6 (by omega) (hk 6 (by omega) (by omega) (by omega) (by omega) (by omega) (by omega) (by omega) (by omega) (by omega) (by omega))
      (by rw [hb]; split_ifs <;> first | rfl | omega)
  · exact key 7 (by omega) (hk 7 (by omega) (by omega) (by omega) (by omega) (by omega) (by omega) (by omega) (by omega) (by omega) (by omega))
      (by rw [hb]; split_ifs <;> first | rfl | omega)
  · exact key 8 (by omega) (hk 8 (by omega) (by omega) (by omega) (by omega) (by omega) (by omega) (by omega) (by omega) (by omega) (by omega))
      (by rw [hb]; split_ifs <;> first | rfl | omega)
  · exact key 9 (by omega) (hk 9 (by omega) (by omega) (by omega) (by omega) (by omega) (by omega) (by omega) (by omega) (by omega) (by omega))
      (by rw [hb]; split_ifs <;> first | rfl | omega)
  · exact key 10 (by omega) (hk 10 (by omega) (by omega) (by omega) (by omega) (by omega) (by omega) (by omega) (by omega) (by omega) (by omega))
      (by rw [hb]; split_ifs <;> first | rfl | omega)

/-! ## The reference's result -/

/-- The count of edges below the capacity, as the reference makes it. -/
def count (x : IVec S1 32) : IVec S1 32 :=
  Host.reduce IntOp.addi (extui 32 (cmpi .slt (broadcastInDim S1x10 ![1] bcast_S10_S1x10_1 edges)
    (broadcastInDim S1x10 ![0, 1] bcast_S1x1_S1x10_0_1 (broadcastInDim S1x1 ![0] bcast_S1_S1x1_0 x))) natLt_1_32)
    (constantI S_ 32 0#32) reducesTo_S1x10_S1_d1 h_S_

theorem count_apply (x : IVec S1 32) (i : S1.Idx) : count x i = below (x i) := by
  unfold count below
  rw [row_fold]
  congr 1
  funext r k
  refine congrArg (IntOp.addi r) ?_
  show (IntOp.cmpi .slt (broadcastInDim S1x10 ![1] bcast_S10_S1x10_1 edges (ix2 (0 : Fin 1) k))
    (broadcastInDim S1x10 ![0, 1] bcast_S1x1_S1x10_0_1 (broadcastInDim S1x1 ![0] bcast_S1_S1x1_0 x) (ix2 (0 : Fin 1) k))).setWidth 32 = _
  have h1 : broadcastInDim S1x10 ![1] bcast_S10_S1x10_1 edges (ix2 (0 : Fin 1) k) = edge k := by
    refine (broadcastInDim_apply _ _ _ _ (ix1 k) fun a => ?_).trans (edges_eq k)
    match a with
    | ⟨0, _⟩ => rfl
  have h2 : broadcastInDim S1x10 ![0, 1] bcast_S1x1_S1x10_0_1 (broadcastInDim S1x1 ![0] bcast_S1_S1x1_0 x) (ix2 (0 : Fin 1) k) = x i :=
    congrArg x (Sequencer.one_idx _ _)
  rw [h1, h2]

/-- The number of the picked edge as the reference makes it, as the table's start index. -/
def start (x : IVec S1 32) : IVec S1x1 32 :=
  broadcastInDim S1x1 ![0] bcast_S1_S1x1_0
    (select (cmpi .slt (minsi (count x) (broadcastInDim S1 ![] bcast_S_S1 (constantI S_ 32 9#32))) (broadcastInDim S1 ![] bcast_S_S1 (constantI S_ 32 0#32)))
      (addi (minsi (count x) (broadcastInDim S1 ![] bcast_S_S1 (constantI S_ 32 9#32))) (broadcastInDim S1 ![] bcast_S_S1 (constantI S_ 32 10#32)))
      (minsi (count x) (broadcastInDim S1 ![] bcast_S_S1 (constantI S_ 32 9#32))))

theorem start_apply (x : IVec S1 32) (i : S1.Idx) (j : S1x1.Idx) : start x j = position (x i) := by
  obtain ⟨k, hk⟩ : ∃ k : S1.Idx, start x j = Scalar.select (IntOp.cmpi .slt (IntOp.minsi (count x k) 9#32) 0#32)
      (IntOp.addi (IntOp.minsi (count x k) 9#32) 10#32) (IntOp.minsi (count x k) 9#32) := ⟨_, rfl⟩
  rw [hk, Sequencer.one_idx k i, count_apply]
  rfl

/-- The reference's result is the comparison tree's bin of the capacity. -/
theorem res_eq (m : (ℓ : Loc nD τ sig) → Buf (Elt Ideal) ℓ) (c : Dev nD) :
    (Value.res_out0 (F := Ideal) m c : S1.Idx → BitVec 32) = fun i => bucket ((m ((c.tc : Thread nD τ).loc main_arg1) : S1.Idx → BitVec 32) i) := by
  funext i
  have e : (Value.res_out0 (F := Ideal) m c : S1.Idx → BitVec 32)
      = Host.gather gather_S10_S1x1_S1_n_0_n_n_0_1_1 edges (start (m ((c.tc : Thread nD τ).loc main_arg1))) := by
    show Value.res_main_v31 m c = _
    unfold Value.res_main_v31 start count edges running shares total powers
    rfl
  obtain ⟨b, hb, he⟩ := pick_eq_bucket ((m ((c.tc : Thread nD τ).loc main_arg1) : S1.Idx → BitVec 32) i)
  rw [e, ← he, Sequencer.one_idx i (ix1 (0 : Fin 1))]
  refine (Routing.gather_take1 gather_S10_S1x1_S1_n_0_n_n_0_1_1 rfl rfl rfl rfl edges _ 0 b ?_ (by norm_num)).trans (edges_eq b)
  exact (start_apply _ i _).trans hb

end Cert.Proof.Bins

end
-- ==== Proof.lean ====
/-
  The claims of this directory: the kernel runs and leaves its arguments alone at the bit-exact floats and at the exact
  reading, so does the reference at the exact reading, the kernel's two readings are of one program, and at the exact
  reading the kernel and the reference leave the same result for every argument.

  `Proof/Sequencer.lean` has the kernel's run over any floats, `Proof/Bins.lean` what the reference computes.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Sequencer
public import proofs.«01_k».proof.Proof.Bins
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel at the bit-exact floats: the one run over any floats, there. -/
theorem frame_kernel : Cert.quiescent_Kernel := fun m ρ _ =>
  (θ_run Cert.KernelIdeal.defs _ _).mono (fun _ h => ⟨fun c => (h.1 c).2, h.2⟩) (Sequencer.run_main (F := Bits) m ρ)

/-- The same at the exact reading. -/
theorem frame_kernelIdeal : Cert.quiescent_KernelIdeal := fun m ρ _ =>
  (θ_run Cert.KernelIdeal.defs _ _).mono (fun _ h => ⟨fun c => (h.1 c).2, h.2⟩) (Sequencer.run_main (F := Ideal) m ρ)

/-- The reference, whose program has no semaphore. -/
theorem frame_referenceIdeal : Cert.quiescent_ReferenceIdeal := fun m ρ _ =>
  (θ_run Cert.ReferenceIdeal.defs _ _).mono (fun _ h => ⟨fun c => (h c).2, sem_eq_zero_of_no_sems rfl _⟩)
    (Cert.ReferenceIdeal.Value.run (F := Ideal) m ρ)

/-- At the exact reading the kernel and the reference leave one result: the bin of the capacity. -/
theorem algebraic : Cert.algebraic_KernelIdeal_ReferenceIdeal := by
  intro m g m' g' _ hagree
  refine ⟨fun c => Sequencer.outVal m c, ?_, ?_⟩
  · exact (θ_run Cert.KernelIdeal.defs _ _).mono (fun _ h => h.1) (Sequencer.run_main (F := Ideal) m g)
  · refine (θ_run Cert.ReferenceIdeal.defs _ _).mono (fun _ h c => ⟨(h c).1.trans ?_, (h c).2⟩)
      (Cert.ReferenceIdeal.Value.run (F := Ideal) m' g')
    refine (Bins.res_eq m' c).trans ?_
    rw [(hagree c).2]
    rfl

/-- All five together. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
